-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x576x384 : Shape := ⟨3, ![16, 576, 384]⟩
abbrev S384x384 : Shape := ⟨2, ![384, 384]⟩
abbrev S384 : Shape := ⟨1, ![384]⟩
abbrev S1x384 : Shape := ⟨2, ![1, 384]⟩
abbrev S1x576x384 : Shape := ⟨3, ![1, 576, 384]⟩
abbrev S576x384 : Shape := ⟨2, ![576, 384]⟩
abbrev S576 : Shape := ⟨1, ![576]⟩
abbrev S576x1 : Shape := ⟨2, ![576, 1]⟩
abbrev S576x576 : Shape := ⟨2, ![576, 576]⟩

abbrev nBuf : Space → Nat
  | .hbm => 8
  | .vmem => 8
  | .smem => 0
  | _ => 0

abbrev bufTy : (tb : Table) → Fin (tcTables nBuf tb) → BufTy
  | .hbm, ⟨0, _⟩ => ⟨S16x576x384, .f32⟩
  | .hbm, ⟨1, _⟩ => ⟨S384x384, .f32⟩
  | .hbm, ⟨2, _⟩ => ⟨S384, .f32⟩
  | .hbm, ⟨3, _⟩ => ⟨S384x384, .f32⟩
  | .hbm, ⟨4, _⟩ => ⟨S384, .f32⟩
  | .hbm, ⟨5, _⟩ => ⟨S1x384, .f32⟩
  | .hbm, ⟨6, _⟩ => ⟨S1x384, .f32⟩
  | .hbm, ⟨7, _⟩ => ⟨S16x576x384, .f32⟩
  | .local _ .vmem, ⟨0, _⟩ => ⟨S1x576x384, .f32⟩
  | .local _ .vmem, ⟨1, _⟩ => ⟨S1x576x384, .f32⟩
  | .local _ .vmem, ⟨2, _⟩ => ⟨S384x384, .f32⟩
  | .local _ .vmem, ⟨3, _⟩ => ⟨S1x384, .f32⟩
  | .local _ .vmem, ⟨4, _⟩ => ⟨S384x384, .f32⟩
  | .local _ .vmem, ⟨5, _⟩ => ⟨S1x384, .f32⟩
  | .local _ .vmem, ⟨6, _⟩ => ⟨S1x576x384, .f32⟩
  | .local _ .vmem, ⟨7, _⟩ => ⟨S1x576x384, .f32⟩
  | _, _ => ⟨S16x576x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x576x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x576x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x576x384 : Shape := ⟨3, ![16, 576, 384]⟩
abbrev S384x384 : Shape := ⟨2, ![384, 384]⟩
abbrev S384 : Shape := ⟨1, ![384]⟩
abbrev S_ : Shape := ⟨0, ![]⟩
abbrev S16x576 : Shape := ⟨2, ![16, 576]⟩
abbrev S16x576x1 : Shape := ⟨3, ![16, 576, 1]⟩
abbrev S16x576x576 : Shape := ⟨3, ![16, 576, 576]⟩
abbrev S576x576 : Shape := ⟨2, ![576, 576]⟩
abbrev S1x576x576 : Shape := ⟨3, ![1, 576, 576]⟩
abbrev S16x576x5 : Shape := ⟨3, ![16, 576, 5]⟩
abbrev S16x576x5x1 : Shape := ⟨4, ![16, 576, 5, 1]⟩
abbrev S16x576x5x384 : Shape := ⟨4, ![16, 576, 5, 384]⟩
abbrev S9216x384 : Shape := ⟨2, ![9216, 384]⟩
abbrev S1x384 : Shape := ⟨2, ![1, 384]⟩

abbrev nBuf : Space → Nat
  | .hbm => 77
  | .vmem => 0
  | .smem => 0
  | _ => 0

abbrev bufTy : (tb : Table) → Fin (tcTables nBuf tb) → BufTy
  | .hbm, ⟨0, _⟩ => ⟨S16x576x384, .f32⟩
  | .hbm, ⟨1, _⟩ => ⟨S384x384, .f32⟩
  | .hbm, ⟨2, _⟩ => ⟨S384, .f32⟩
  | .hbm, ⟨3, _⟩ => ⟨S384x384, .f32⟩
  | .hbm, ⟨4, _⟩ => ⟨S384, .f32⟩
  | .hbm, ⟨5, _⟩ => ⟨S16x576x384, .f32⟩
  | .hbm, ⟨6, _⟩ => ⟨S_, .f32⟩
  | .hbm, ⟨7, _⟩ => ⟨S16x576, .f32⟩
  | .hbm, ⟨8, _⟩ => ⟨S16x576x1, .f32⟩
  | .hbm, ⟨9, _⟩ => ⟨S16x576x1, .f32⟩
  | .hbm, ⟨10, _⟩ => ⟨S_, .f32⟩
  | .hbm, ⟨11, _⟩ => ⟨S16x576x1, .f32⟩
  | .hbm, ⟨12, _⟩ => ⟨S16x576x1, .f32⟩
  | .hbm, ⟨13, _⟩ => ⟨S16x576x384, .f32⟩
  | .hbm, ⟨14, _⟩ => ⟨S16x576x384, .f32⟩
  | .hbm, ⟨15, _⟩ => ⟨S16x576x576, .f32⟩
  | .hbm, ⟨16, _⟩ => ⟨S576x576, .i32⟩
  | .hbm, ⟨17, _⟩ => ⟨S576x576, .i32⟩
  | .hbm, ⟨18, _⟩ => ⟨S_, .i32⟩
  | .hbm, ⟨19, _⟩ => ⟨S576x576, .i32⟩
  | .hbm, ⟨20, _⟩ => ⟨S576x576, .i32⟩
  | .hbm, ⟨21, _⟩ => ⟨S576x576, .i1⟩
  | .hbm, ⟨22, _⟩ => ⟨S1x576x576, .i1⟩
  | .hbm, ⟨23, _⟩ => ⟨S_, .f32⟩
  | .hbm, ⟨24, _⟩ => ⟨S_, .f32⟩
  | .hbm, ⟨25, _⟩ => ⟨S16x576x576, .i1⟩
  | .hbm, ⟨26, _⟩ => ⟨S16x576x576, .f32⟩
  | .hbm, ⟨27, _⟩ => ⟨S16x576x576, .f32⟩
  | .hbm, ⟨28, _⟩ => ⟨S16x576x5, .f32⟩
  | .hbm, ⟨29, _⟩ => ⟨S16x576x5, .i32⟩
  | .hbm, ⟨30, _⟩ => ⟨S_, .f32⟩
  | .hbm, ⟨31, _⟩ => ⟨S16x576, .f32⟩
  | .hbm, ⟨32, _⟩ => ⟨S_, .f32⟩
  | .hbm, ⟨33, _⟩ => ⟨S16x576, .f32⟩
  | .hbm, ⟨34, _⟩ => ⟨S16x576, .f32⟩
  | .hbm, ⟨35, _⟩ => ⟨S16x576x1, .f32⟩
  | .hbm, ⟨36, _⟩ => ⟨S16x576x5, .f32⟩
  | .hbm, ⟨37, _⟩ => ⟨S16x576x5, .f32⟩
  | .hbm, ⟨38, _⟩ => ⟨S16x576x5, .f32⟩
  | .hbm, ⟨39, _⟩ => ⟨S_, .f32⟩
  | .hbm, ⟨40, _⟩ => ⟨S16x576, .f32⟩
  | .hbm, ⟨41, _⟩ => ⟨S16x576x1, .f32⟩
  | .hbm, ⟨42, _⟩ => ⟨S16x576x5, .f32⟩
  | .hbm, ⟨43, _⟩ => ⟨S16x576x5, .f32⟩
  | .hbm, ⟨44, _⟩ => ⟨S_, .i32⟩
  | .hbm, ⟨45, _⟩ => ⟨S16x576x5, .i32⟩
  | .hbm, ⟨46, _⟩ => ⟨S16x576x5, .i1⟩
  | .hbm, ⟨47, _⟩ => ⟨S_, .i32⟩
  | .hbm, ⟨48, _⟩ => ⟨S16x576x5, .i32⟩
  | .hbm, ⟨49, _⟩ => ⟨S16x576x5, .i32⟩
  | .hbm, ⟨50, _⟩ => ⟨S16x576x5, .i32⟩
  | .hbm, ⟨51, _⟩ => ⟨S16x576x5x1, .i32⟩
  | .hbm, ⟨52, _⟩ => ⟨S16x576x5x384, .f32⟩
  | .hbm, ⟨53, _⟩ => ⟨S16x576x5x1, .f32⟩
  | .hbm, ⟨54, _⟩ => ⟨S16x576x5x384, .f32⟩
  | .hbm, ⟨55, _⟩ => ⟨S16x576x5x384, .f32⟩
  | .hbm, ⟨56, _⟩ => ⟨S_, .f32⟩
  | .hbm, ⟨57, _⟩ => ⟨S16x576x384, .f32⟩
  | .hbm, ⟨58, _⟩ => ⟨S16x576x384, .f32⟩
  | .hbm, ⟨59, _⟩ => ⟨S9216x384, .f32⟩
  | .hbm, ⟨60, _⟩ => ⟨S384x384, .f32⟩
  | .hbm, ⟨61, _⟩ => ⟨S9216x384, .f32⟩
  | .hbm, ⟨62, _⟩ => ⟨S1x384, .f32⟩
  | .hbm, ⟨63, _⟩ => ⟨S9216x384, .f32⟩
  | .hbm, ⟨64, _⟩ => ⟨S9216x384, .f32⟩
  | .hbm, ⟨65, _⟩ => ⟨S_, .f32⟩
  | .hbm, ⟨66, _⟩ => ⟨S9216x384, .f32⟩
  | .hbm, ⟨67, _⟩ => ⟨S9216x384, .f32⟩
  | .hbm, ⟨68, _⟩ => ⟨S384x384, .f32⟩
  | .hbm, ⟨69, _⟩ => ⟨S9216x384, .f32⟩
  | .hbm, ⟨70, _⟩ => ⟨S1x384, .f32⟩
  | .hbm, ⟨71, _⟩ => ⟨S9216x384, .f32⟩
  | .hbm, ⟨72, _⟩ => ⟨S9216x384, .f32⟩
  | .hbm, ⟨73, _⟩ => ⟨S_, .f32⟩
  | .hbm, ⟨74, _⟩ => ⟨S9216x384, .f32⟩
  | .hbm, ⟨75, _⟩ => ⟨S9216x384, .f32⟩
  | .hbm, ⟨76, _⟩ => ⟨S16x576x384, .f32⟩
  | _, _ => ⟨S16x576x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v12 : Ref sig .tc := ⟨.hbm, 27, rfl⟩
abbrev main_values : Ref sig .tc := ⟨.hbm, 28, rfl⟩
abbrev main_indices : Ref sig .tc := ⟨.hbm, 29, rfl⟩
abbrev main_cst_1 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call2_cst : Ref sig .tc := ⟨.hbm, 65, rfl⟩
abbrev main_call2_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call3_cst : Ref sig .tc := ⟨.hbm, 73, rfl⟩
abbrev main_call3_v0 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Proof.RowPick.lean ====
/-
  One row of scores, and the five picks from it. `rank s k` is the position of the `k`-th greatest entry of the row `s`, equal
  entries taken in the order of their positions; `left s k` is the row with the first `k` picks struck out (set to `⊥`). The
  file shows that striking out the first greatest entry again and again goes through the ranks in order.
-/
module

public import Idealize.ShloMosaic.Lib.SortPrefix
public import Mathlib.Data.EReal.Basic

@[expose] public section

noncomputable section

namespace Cert.Dge

open Idealize.ShloMosaic

variable {n : ℕ}

/-- The position of the `k`-th greatest entry of a row: the stable sort of the positions by falling entry. -/
def rank (s : Fin n → EReal) : Fin n → Fin n := sortedFrom fun a b => decide (s b < s a)

/-- No two ranks are the same position. -/
theorem rank_injective (s : Fin n → EReal) : Function.Injective (rank s) := sortedFrom_injective _

/-- Every position has a rank. -/
theorem rank_surjective (s : Fin n → EReal) : Function.Surjective (rank s) := sortedFrom_surjective _

/-- "Greater entry first, and of equal entries the lower position first". -/
def ahead (s : Fin n → EReal) (a b : Fin n) : Bool := decide (s b < s a) || (decide (s a = s b) && decide (a < b))

/-- `ahead` is a strict total order of the positions. -/
theorem ahead_total (s : Fin n → EReal) : StrictTotalBefore (ahead s) :=
  StrictTotalBefore.of_key_then_position (fun a b : EReal => decide (b < a)) s (fun a => by simp)
    (fun a b c hab hbc => by simp only [decide_eq_true_eq] at *; exact hbc.trans hab)
    (fun a b => by simp only [decide_eq_true_eq]; rcases lt_trichotomy a b with h | h | h <;> simp [h])

/-- On a list of rising positions the stable sort by entries alone is the sort by `ahead`: it never puts a later
    position in front of an equal earlier one. -/
theorem stableSort_ahead (s : Fin n → EReal) (l : List (Fin n)) (hl : l.Pairwise (· < ·)) :
    stableSort (fun a b => decide (s b < s a)) l = stableSort (ahead s) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [ahead, not_lt.mpr hab.le]

/-- The ranks are the positions sorted by `ahead`. -/
theorem rank_eq (s : Fin n → EReal) : rank s = sortedFrom (ahead s) := by
  funext k
  unfold rank sortedFrom sortPositions
  rw [List.get_of_eq (stableSort_ahead s _ (List.pairwise_lt_finRange n))]
  rfl

/-- A later rank holds no greater entry, and of an equal entry it is the later position. -/
theorem rank_after (s : Fin n → EReal) {i j : Fin n} (h : i < j) :
    s (rank s j) ≤ s (rank s i) ∧ (s (rank s j) = s (rank s i) → rank s i ≤ rank s j) := by
  have hB := ahead_total s
  have h := sortedFrom_noInversion (ahead s) (ahead s) (fun a b h => hB.asymm a b h) (fun _ _ h => h) hB.negTrans i j h
  rw [← rank_eq] at h
  simp only [ahead, Bool.or_eq_false_iff, decide_eq_false_iff_not, not_lt, Bool.and_eq_false_iff] at h
  refine ⟨h.1, fun e => ?_⟩
  rcases h.2 with h' | h'
  · exact absurd e h'
  · exact h'

/-- `i` is the first of the positions that hold the row's greatest entry. -/
def IsFirst (s : Fin n → EReal) (i : Fin n) : Prop := (∀ j, s j ≤ s i) ∧ ∀ j, s j = s i → i ≤ j

/-- The row with position `i` struck out. -/
def strike (s : Fin n → EReal) (i : Fin n) : Fin n → EReal := fun j => if j = i then ⊥ else s j

/-- The row with its first `k` ranks struck out. -/
def left (s : Fin n → EReal) (k : ℕ) : Fin n → EReal := by
  classical exact fun j => if ∃ i : Fin n, i.val < k ∧ rank s i = j then ⊥ else s j

/-- Nothing is struck out before the first round. -/
theorem left_zero (s : Fin n → EReal) : left s 0 = s := by
  funext j
  simp [left]

/-- The position a round picks still holds its entry. -/
theorem left_rank (s : Fin n → EReal) (k : Fin n) : left s k (rank s k) = s (rank s k) := by
  unfold left
  rw [if_neg]
  rintro ⟨i, hi, e⟩
  rw [rank_injective s e] at hi
  exact lt_irrefl _ hi

/-- One round strikes out one rank more. -/
theorem left_succ (s : Fin n → EReal) (k : Fin n) : left s (k.val + 1) = strike (left s k) (rank s k) := by
  funext j
  unfold strike
  by_cases h : j = rank s k
  · rw [if_pos h]
    unfold left
    rw [if_pos ⟨k, Nat.lt_succ_self _, h.symm⟩]
  · rw [if_neg h]
    unfold left
    refine if_congr ?_ rfl rfl
    constructor
    · rintro ⟨i, hi, e⟩
      refine ⟨i, lt_of_le_of_ne (Nat.lt_succ_iff.mp hi) fun e' => ?_, e⟩
      rw [Fin.ext e'] at e
      exact h e.symm
    · rintro ⟨i, hi, e⟩
      exact ⟨i, Nat.lt_succ_of_lt hi, e⟩

/-- While the `k`-th greatest entry is above `⊥`, it is the first greatest entry of what the earlier rounds left. -/
theorem isFirst_left (s : Fin n → EReal) (k : Fin n) (hk : ⊥ < s (rank s k)) : IsFirst (left s k) (rank s k) := by
  have key (j : Fin n) : left s k j ≤ s (rank s k) ∧ (left s k j = s (rank s k) → rank s k ≤ j) := by
    unfold left
    split
    · exact ⟨bot_le, fun e => absurd e hk.ne⟩
    · rename_i h
      obtain ⟨i, rfl⟩ := rank_surjective s j
      have hi : k ≤ i := by
        by_contra h'
        exact h ⟨i, by simpa using h', rfl⟩
      rcases hi.eq_or_lt with rfl | hi
      · exact ⟨le_rfl, fun _ => le_rfl⟩
      · exact rank_after s hi
  constructor
  · intro j; rw [left_rank]; exact (key j).1
  · intro j; rw [left_rank]; exact (key j).2

/-- In a row with one entry `⊥` and the others above it, every rank but the last is above `⊥`. -/
theorem bot_lt_rank (s : Fin n → EReal) (d : Fin n) (hs : ∀ j, j ≠ d → ⊥ < s j) (k : Fin n) (hk : k.val + 1 < n) :
    ⊥ < s (rank s k) := by
  let l : Fin n := ⟨k.val + 1, hk⟩
  have hkl : k < l := Fin.lt_def.mpr (Nat.lt_succ_self _)
  by_cases h : rank s k = d
  · have hl : rank s l ≠ d := fun e => hkl.ne (rank_injective s (h.trans e.symm))
    exact (hs _ hl).trans_le (rank_after s hkl).1
  · exact hs _ h

end Cert.Dge

end
-- ==== Proof.Rounds.lean ====
/-
  One round of the kernel's selection, row by row: the greatest entry (`topOf`), the least position word among those that hold
  it (`firstOf`), and the mark on the column whose word that is. On a row whose first greatest entry is known each of the three
  is read here, so the five rounds read off the ranks of Proof/RowPick.lean.
-/
module

public import proofs.«01_k».proof.Proof.RowPick
public import Idealize.ShloMosaic.PureOps.Ideal.Laws
public import Idealize.ShloMosaic.Lib.WordArith

@[expose] public section

noncomputable section

namespace Cert.Dge

open Idealize.ShloMosaic

/-- The word `0xFF800000` is read as minus infinity. -/
theorem negInf : Ideal.ofBits .f32 4286578688#32 = (⊥ : EReal) := by
  simp [Ideal.ofBits, Ideal.ieee]

/-- The greatest entry of a row, folded from minus infinity. -/
def topOf {n : ℕ} (s : Fin n → EReal) : EReal := Finset.univ.fold max (Ideal.ofBits .f32 4286578688#32) s

/-- The fold's value at a row whose greatest entry is at `i`. -/
theorem topOf_eq {n : ℕ} {s : Fin n → EReal} {i : Fin n} (h : ∀ j, s j ≤ s i) : topOf s = s i := by
  unfold topOf
  rw [negInf]
  apply le_antisymm
  · exact (Finset.fold_max_le _).mpr ⟨bot_le, fun j _ => h j⟩
  · exact (Finset.le_fold_max _).mpr (Or.inr ⟨i, Finset.mem_univ _, le_rfl⟩)

/-- The least word among the columns that hold the greatest entry; a column that does not counts as 576. -/
def firstOf (s : Fin 576 → EReal) : BitVec 32 :=
  Finset.univ.fold IntOp.minsi (2147483647#32) fun j => if s j = topOf s then BitVec.ofNat 32 j.val else 576#32

/-- A position below 577 as a signed word is itself. -/
theorem toInt_pos {a : ℕ} (h : a < 577) : (BitVec.ofNat 32 a).toInt = a := by
  rw [show BitVec.ofNat 32 a = (a : BitVec 32) from rfl, BitVec.toInt_eq_toNat_of_lt] <;>
    simp only [BitVec.natCast_eq_ofNat, BitVec.toNat_ofNat] <;> omega

/-- The lesser word is at most a bound exactly when one of the two is. -/
theorem minsi_le {x y z : BitVec 32} : (IntOp.minsi x y).toInt ≤ z.toInt ↔ x.toInt ≤ z.toInt ∨ y.toInt ≤ z.toInt := by
  unfold IntOp.minsi
  split <;> rename_i h <;> rw [BitVec.slt_iff_toInt_lt] at h <;> omega

/-- A bound is at most the lesser word exactly when it is at most both. -/
theorem le_minsi {x y z : BitVec 32} : z.toInt ≤ (IntOp.minsi x y).toInt ↔ z.toInt ≤ x.toInt ∧ z.toInt ≤ y.toInt := by
  unfold IntOp.minsi
  split <;> rename_i h <;> rw [BitVec.slt_iff_toInt_lt] at h <;> omega

/-- The least word at a row whose first greatest entry is at `i` is `i`'s. -/
theorem firstOf_eq {s : Fin 576 → EReal} {i : Fin 576} (h : IsFirst s i) : firstOf s = BitVec.ofNat 32 i.val := by
  have hi := i.isLt
  apply BitVec.eq_of_toInt_eq
  unfold firstOf
  rw [topOf_eq h.1]
  apply le_antisymm
  · refine (Finset.fold_op_rel_iff_or (r := fun (x y : BitVec 32) => y.toInt ≤ x.toInt) (op := IntOp.minsi)
      (fun {x y z} => minsi_le)).mpr (Or.inr ⟨i, Finset.mem_univ _, ?_⟩)
    simp
  · refine (Finset.fold_op_rel_iff_and (r := fun (x y : BitVec 32) => x.toInt ≤ y.toInt) (op := IntOp.minsi)
      (fun {x y z} => le_minsi)).mpr ⟨?_, fun j _ => ?_⟩
    · rw [toInt_pos (by omega)]
      have : (2147483647#32).toInt = 2147483647 := by decide
      omega
    · have hj := j.isLt
      rw [toInt_pos (by omega)]
      split
      · rename_i e
        have := Fin.le_def.mp (h.2 j e)
        rw [toInt_pos (by omega)]
        omega
      · rw [show (576#32).toInt = 576 by decide]
        omega

/-- Two position words are equal exactly when the positions are. -/
theorem word_inj {c i : Fin 576} : BitVec.ofNat 32 c.val = BitVec.ofNat 32 i.val ↔ c = i := by
  constructor
  · intro h
    have h := congrArg BitVec.toInt h
    have := c.isLt; have := i.isLt
    rw [toInt_pos (by omega), toInt_pos (by omega)] at h
    apply Fin.ext
    omega
  · rintro rfl; rfl

/-- The mark "this column is the one named": 1 there and 0 elsewhere. -/
def mark (c i : Fin 576) : BitVec 1 := if c = i then 1#1 else 0#1

/-- Comparing two position words gives the mark. -/
theorem cmpi_word (c i : Fin 576) : IntOp.cmpi .eq (BitVec.ofNat 32 c.val) (BitVec.ofNat 32 i.val) = mark c i := by
  unfold mark
  by_cases h : c = i
  · subst h; simp [IntOp.cmpi]
  · have h' := fun e => h (word_inj.mp e)
    rw [if_neg h]
    simp only [IntOp.cmpi]
    rw [beq_eq_false_iff_ne.mpr h']
    rfl

/-- Choosing by a mark. -/
theorem select_mark {α : Type} (c i : Fin 576) (a b : α) : Scalar.select (mark c i) a b = if c = i then a else b := by
  unfold mark Scalar.select
  by_cases h : c = i <;> simp [h]

/-! ## A round on what the earlier rounds left -/

/-- Round `k`'s greatest entry is the `k`-th greatest of the row. -/
theorem topOf_left (s : Fin 576 → EReal) (k : Fin 576) (hk : ⊥ < s (rank s k)) : topOf (left s k.val) = s (rank s k) := by
  rw [topOf_eq (isFirst_left s k hk).1, left_rank]

/-- Round `k`'s position word is the `k`-th rank's. -/
theorem firstOf_left (s : Fin 576 → EReal) (k : Fin 576) (hk : ⊥ < s (rank s k)) :
    firstOf (left s k.val) = BitVec.ofNat 32 (rank s k).val := firstOf_eq (isFirst_left s k hk)

/-- Round `k` leaves the row with one rank more struck out. -/
theorem strike_left (s : Fin 576 → EReal) (k : Fin 576) (c : Fin 576) :
    (if c = rank s k then ⊥ else left s k.val c) = left s (k.val + 1) c := by
  rw [left_succ]; rfl

end Cert.Dge

end
-- ==== Proof.Scores.lean ====
/-
  The scores of one 576x384 block: each row divided by its norm plus a small positive constant, the inner products of the
  divided rows, and minus infinity on the diagonal. Whatever extended reals the block holds, a divided entry is a finite real:
  a row with an infinite entry has an infinite norm and divides to zeros. So every score off the diagonal is above minus infinity.
-/
module

public import proofs.«01_k».proof.Proof.Rounds

@[expose] public section

noncomputable section

namespace Cert.Dge

open Idealize.ShloMosaic

variable {D : ℕ}

/-- The constant added to a norm. -/
abbrev eps : EReal := Ideal.ofBits .f32 841731191#32

/-- The constant is a positive real. -/
theorem eps_pos : ∃ e : ℝ, 0 < e ∧ eps = (e : EReal) := by
  have h : eps = ((11258999 * (2 : ℝ) ^ (-50 : ℤ) : ℝ) : EReal) := by
    unfold eps
    simp [Ideal.ofBits, Ideal.ieee, -EReal.coe_mul]
  exact ⟨_, by positivity, h⟩

/-- A row's norm plus the constant. -/
def nrm (v : Fin D → EReal) : EReal := Ideal.sqrt (∑ d, v d * v d) + eps

/-- An entry of the divided row. -/
def unit (v : Fin D → EReal) (d : Fin D) : EReal := Ideal.div (v d) (nrm v)

/-- A square is not negative. -/
theorem sq_nonneg' (a : EReal) : 0 ≤ a * a := by
  induction a with
  | bot => simp
  | top => simp
  | coe r => exact_mod_cast mul_self_nonneg r

/-- An entry whose square is finite is a real. -/
theorem real_of_sq {a : EReal} (h : a * a ≠ ⊤) : ∃ r : ℝ, a = r := by
  induction a with
  | bot => simp at h
  | top => simp at h
  | coe r => exact ⟨r, rfl⟩

/-- An entry of a divided row is a finite real. -/
theorem unit_real (v : Fin D → EReal) (d : Fin D) : ∃ r : ℝ, unit v d = r := by
  obtain ⟨e, he, hee⟩ := eps_pos
  unfold unit nrm
  rw [hee]
  have h0 : 0 ≤ ∑ d, v d * v d := Finset.sum_nonneg fun d _ => sq_nonneg' _
  have hd : v d * v d ≤ ∑ d, v d * v d := Finset.single_le_sum (f := fun d => v d * v d) (fun d _ => sq_nonneg' _) (Finset.mem_univ d)
  generalize (∑ d, v d * v d) = S at h0 hd
  induction S with
  | bot => simp at h0
  | top =>
    refine ⟨0, ?_⟩
    rw [show Ideal.sqrt ⊤ = ⊤ from rfl, EReal.top_add_coe]
    simp [Ideal.div]
  | coe S =>
    obtain ⟨a, ha⟩ := real_of_sq (a := v d) (ne_top_of_le_ne_top (EReal.coe_ne_top S) hd)
    have hS : ¬ S < 0 := not_lt.mpr (by exact_mod_cast h0)
    have hp : 0 < Real.sqrt S + e := by positivity
    refine ⟨a * (Real.sqrt S + e)⁻¹, ?_⟩
    have hne : ((Real.sqrt S : EReal) + (e : EReal)) ≠ 0 := by
      rw [← EReal.coe_add]
      exact_mod_cast hp.ne'
    rw [show Ideal.sqrt (S : EReal) = if S < 0 then ⊥ else (Real.sqrt S : EReal) from rfl, if_neg hS, ha]
    unfold Ideal.div
    rw [if_neg hne, ← EReal.coe_add, ← EReal.coe_inv, ← EReal.coe_mul]

/-- A sum of reals is a real. -/
theorem sum_real {ι : Type} (s : Finset ι) (f : ι → EReal) (hf : ∀ i, ∃ r : ℝ, f i = r) : ∃ r : ℝ, ∑ i ∈ s, f i = r := by
  choose g hg using hf
  refine ⟨∑ i ∈ s, g i, ?_⟩
  simp only [hg]
  induction s using Finset.cons_induction with
  | empty => simp
  | cons a s ha ih => rw [Finset.sum_cons, Finset.sum_cons, ih, EReal.coe_add]

/-- The inner product of two divided rows. -/
def cosine (v w : Fin D → EReal) : EReal := ∑ d, unit v d * unit w d

/-- It is a finite real. -/
theorem cosine_real (v w : Fin D → EReal) : ∃ r : ℝ, cosine v w = r :=
  sum_real _ _ fun d => by
    obtain ⟨a, ha⟩ := unit_real v d
    obtain ⟨b, hb⟩ := unit_real w d
    exact ⟨a * b, by rw [ha, hb, EReal.coe_mul]⟩

/-- The scores of row `r` against every row, the row itself shut out. -/
def score (x : Fin 576 → Fin D → EReal) (r c : Fin 576) : EReal := if r = c then ⊥ else cosine (x r) (x c)

/-- A score off the diagonal is above minus infinity. -/
theorem bot_lt_score (x : Fin 576 → Fin D → EReal) (r c : Fin 576) (h : c ≠ r) : ⊥ < score x r c := by
  unfold score
  rw [if_neg h.symm]
  obtain ⟨a, ha⟩ := cosine_real (x r) (x c)
  rw [ha]
  exact EReal.bot_lt_coe a

/-- The five greatest scores of a row are finite reals. -/
theorem score_rank_real (x : Fin 576 → Fin D → EReal) (r k : Fin 576) (hk : k.val < 5) :
    ∃ a : ℝ, score x r (rank (score x r) k) = a := by
  have h := bot_lt_rank (score x r) r (bot_lt_score x r) k (by omega)
  generalize rank (score x r) k = c at h ⊢
  unfold score at h ⊢
  by_cases e : r = c
  · rw [if_pos e] at h; exact absurd h (lt_irrefl _)
  · rw [if_neg e]; exact cosine_real _ _

end Cert.Dge

end
-- ==== Proof.KernelRounds.lean ====
/-
  What the five rounds of the kernel's body compute from one 576x384 block, entry by entry: after `k` rounds the scores are
  those of Proof/Scores.lean with the first `k` ranks of each row struck out, and the weights are the exponentials of the
  picked scores less the greatest one, at the picked columns.
-/
module

public import proofs.«01_k».proof.Proof.Scores
public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.Dge

open Idealize.ShloMosaic Cert.KernelIdeal Cert.KernelIdeal.Gen

/-- The block as a table of rows. -/
abbrev rowsOf (v : Vec Ideal S1x576x384 .f32) : Fin 576 → Fin 384 → EReal := fun n d => v (ix3 0 n d)

/-- The exponential of a row's `k`-th greatest score less its greatest. -/
def lift (s : Fin 576 → EReal) (k : Fin 576) : EReal := Ideal.exp (s (rank s k) - s (rank s 0))

/-- What round `k` adds to the weight of column `c`. -/
def share (s : Fin 576 → EReal) (k c : Fin 576) : EReal := if c = rank s k then lift s k else 0

/-- The weight of column `c` after the five rounds. -/
def weight (s : Fin 576 → EReal) (c : Fin 576) : EReal := share s 0 c + share s 1 c + share s 2 c + share s 3 c + share s 4 c

variable (v : Vec Ideal S1x576x384 .f32) (r c : Fin 576)

/-- The five picked scores of a row are above minus infinity. -/
theorem bot_lt_pick (x : Fin 576 → Fin 384 → EReal) (k : Fin 576) (hk : k.val < 5) :
    ⊥ < score x r (rank (score x r) k) := bot_lt_rank (score x r) r (bot_lt_score x r) k (by omega)

/-- The scores before the first round. -/
theorem pay3_apply : k0_pay3 v (ix2 r c) = score (rowsOf v) r c := by
  unfold k0_pay3
  pointwise [k0_pay2]
  rw [cmpi_word, select_mark, negInf]
  rfl

/-- Round 0's greatest score. -/
theorem pay4_apply (q : Fin 1) : k0_pay4 v (ix2 r q) = score (rowsOf v) r (rank (score (rowsOf v) r) 0) := by
  unfold k0_pay4
  pointwise
  simp only [pay3_apply]
  have h := topOf_left (score (rowsOf v) r) 0 (bot_lt_pick r _ 0 (by decide))
  rw [show ((0 : Fin 576).val) = 0 from rfl, left_zero] at h
  exact h

/-- Round 0's mark. -/
theorem pay5_apply : k0_pay5 v (ix2 r c) = mark c (rank (score (rowsOf v) r) 0) := by
  unfold k0_pay5
  pointwise [k0_pay4]
  simp only [pay3_apply]
  have h := firstOf_left (score (rowsOf v) r) 0 (bot_lt_pick r _ 0 (by decide))
  rw [show ((0 : Fin 576).val) = 0 from rfl, left_zero] at h
  rw [← cmpi_word, ← h]
  rfl

/-- The weights after round 0. -/
theorem pay6_apply : k0_pay6 v (ix2 r c) = share (score (rowsOf v) r) 0 c := by
  unfold k0_pay6
  pointwise
  rw [pay5_apply, select_mark, pay4_apply]
  rfl

/-- The scores after round 0. -/
theorem pay7_apply : k0_pay7 v (ix2 r c) = left (score (rowsOf v) r) 1 c := by
  unfold k0_pay7
  pointwise
  rw [pay5_apply, select_mark, negInf, pay3_apply]
  have h := strike_left (score (rowsOf v) r) 0 c
  rw [show ((0 : Fin 576).val) = 0 from rfl, left_zero] at h
  exact h

/-- Round 1's greatest score. -/
theorem pay8_apply (q : Fin 1) : k0_pay8 v (ix2 r q) = score (rowsOf v) r (rank (score (rowsOf v) r) 1) := by
  unfold k0_pay8
  pointwise
  simp only [pay7_apply]
  exact topOf_left (score (rowsOf v) r) 1 (bot_lt_pick r _ 1 (by decide))

/-- Round 1's position word. -/
theorem pay9_apply : k0_pay9 v (ix1 r) = BitVec.ofNat 32 (rank (score (rowsOf v) r) 1).val := by
  unfold k0_pay9
  pointwise [k0_pay8]
  simp only [pay7_apply]
  exact firstOf_left (score (rowsOf v) r) 1 (bot_lt_pick r _ 1 (by decide))

/-- The column numbers. -/
abbrev cols : IVec S576x576 32 := iota .tc S576x576 32 [1] iota_S576x576_d1_w32

/-- Round 1's mark. -/
theorem pay10_apply : k0_pay10 cols (k0_pay9 v) (ix2 r c) = mark c (rank (score (rowsOf v) r) 1) := by
  unfold k0_pay10
  pointwise
  rw [pay9_apply, cmpi_word]

/-- The scores after round 1. -/
theorem pay11_apply : k0_pay11 cols (k0_pay7 v) (k0_pay9 v) (ix2 r c) = left (score (rowsOf v) r) 2 c := by
  unfold k0_pay11
  pointwise
  rw [pay10_apply, select_mark, negInf, pay7_apply]
  exact strike_left _ 1 c

/-- Round 2's greatest score. -/
theorem pay12_apply (q : Fin 1) :
    k0_pay12 cols (k0_pay7 v) (k0_pay9 v) (ix2 r q) = score (rowsOf v) r (rank (score (rowsOf v) r) 2) := by
  unfold k0_pay12
  pointwise
  simp only [pay11_apply]
  exact topOf_left (score (rowsOf v) r) 2 (bot_lt_pick r _ 2 (by decide))

/-- Round 2's mark. -/
theorem pay13_apply :
    k0_pay13 cols (k0_pay7 v) (k0_pay9 v) (ix2 r c) = mark c (rank (score (rowsOf v) r) 2) := by
  unfold k0_pay13
  pointwise [k0_pay12]
  simp only [pay11_apply]
  rw [← cmpi_word, ← firstOf_left (score (rowsOf v) r) 2 (bot_lt_pick r _ 2 (by decide))]
  rfl

/-- The scores after round 2. -/
theorem pay14_apply : k0_pay14 cols (k0_pay7 v) (k0_pay9 v) (ix2 r c) = left (score (rowsOf v) r) 3 c := by
  unfold k0_pay14
  pointwise
  rw [pay13_apply, select_mark, negInf, pay11_apply]
  exact strike_left _ 2 c

/-- Round 3's greatest score. -/
theorem pay15_apply (q : Fin 1) :
    k0_pay15 cols (k0_pay7 v) (k0_pay9 v) (ix2 r q) = score (rowsOf v) r (rank (score (rowsOf v) r) 3) := by
  unfold k0_pay15
  pointwise
  simp only [pay14_apply]
  exact topOf_left (score (rowsOf v) r) 3 (bot_lt_pick r _ 3 (by decide))

/-- Round 3's mark. -/
theorem pay16_apply :
    k0_pay16 cols (k0_pay7 v) (k0_pay9 v) (ix2 r c) = mark c (rank (score (rowsOf v) r) 3) := by
  unfold k0_pay16
  pointwise [k0_pay15]
  simp only [pay14_apply]
  rw [← cmpi_word, ← firstOf_left (score (rowsOf v) r) 3 (bot_lt_pick r _ 3 (by decide))]
  rfl

/-- The weights after round 3. -/
theorem pay17_apply : k0_pay17 cols (k0_pay4 v) (k0_pay6 v) (k0_pay7 v) (k0_pay8 v) (k0_pay9 v) (ix2 r c)
    = share (score (rowsOf v) r) 0 c + share (score (rowsOf v) r) 1 c + share (score (rowsOf v) r) 2 c
      + share (score (rowsOf v) r) 3 c := by
  unfold k0_pay17
  pointwise
  rw [pay10_apply, pay13_apply, pay16_apply, pay6_apply, pay4_apply, pay8_apply, pay12_apply, pay15_apply]
  simp only [select_mark]
  rfl

end Cert.Dge

end
-- ==== Proof.KernelBlock.lean ====
/-
  What the kernel's body leaves in the output block, entry by entry: the fifth round, the weights divided by their sum, the
  weighted rows added to the row itself, and the two dense layers.
-/
module

public import proofs.«01_k».proof.Proof.KernelRounds

@[expose] public section

set_option maxRecDepth 16384

noncomputable section

namespace Cert.Dge

open Idealize.ShloMosaic Cert.KernelIdeal Cert.KernelIdeal.Gen

/-- A dense layer on one row, its negative entries cut to zero. -/
def dense (h : Fin 384 → EReal) (w : Fin 384 → Fin 384 → EReal) (b : Fin 384 → EReal) (e : Fin 384) : EReal :=
  max (∑ d, h d * w e d + b e) 0

/-- A row plus the weighted rows, the weights divided by their sum over all columns. -/
def mixed (x : Fin 576 → Fin 384 → EReal) (r : Fin 576) (d : Fin 384) : EReal :=
  x r d + ∑ c, Ideal.div (weight (score x r) c) (∑ j, weight (score x r) j) * x c d

/-- Striking out round 3's pick. -/
theorem strike3 (s : Fin 576 → EReal) (c : Fin 576) :
    (if c = rank s 3 then Ideal.ofBits .f32 4286578688#32 else left s 3 c) = left s 4 c := by
  rw [negInf]
  exact strike_left s 3 c

/-- Round 4's greatest score. -/
theorem top4 (x : Fin 576 → Fin 384 → EReal) (r : Fin 576) :
    Finset.univ.fold max (Ideal.ofBits .f32 4286578688#32) (fun j => left (score x r) 4 j) = score x r (rank (score x r) 4) :=
  topOf_left (score x r) 4 (bot_lt_pick r x 4 (by decide))

/-- Round 4's position word. -/
theorem first4 (x : Fin 576 → Fin 384 → EReal) (r : Fin 576) :
    Finset.univ.fold IntOp.minsi (2147483647#32)
      (fun j => if left (score x r) 4 j = score x r (rank (score x r) 4) then BitVec.ofNat 32 j.val else 576#32)
      = BitVec.ofNat 32 (rank (score x r) 4).val := by
  have h := firstOf_left (score x r) 4 (bot_lt_pick r x 4 (by decide))
  unfold firstOf at h
  rw [topOf_left (score x r) 4 (bot_lt_pick r x 4 (by decide))] at h
  exact h

/-- The output block's entry. -/
theorem pay18_apply (v : Vec Ideal S1x576x384 .f32) (w1 w2 : Vec Ideal S384x384 .f32) (b1 b2 : Vec Ideal S1x384 .f32)
    (r : Fin 576) (e : Fin 384) :
    k0_pay18 (k0_pay2 v) cols (k0_pay4 v) (k0_pay14 cols (k0_pay7 v) (k0_pay9 v)) (k0_pay16 cols (k0_pay7 v) (k0_pay9 v))
        (k0_pay17 cols (k0_pay4 v) (k0_pay6 v) (k0_pay7 v) (k0_pay8 v) (k0_pay9 v)) (Scalar.ofBits .f32 0xFF800000#32) w1 b1 w2 b2
        (ix2 r e)
      = dense (dense (mixed (rowsOf v) r) (fun e d => w1 (ix2 e d)) (fun e => b1 (ix2 0 e))) (fun e d => w2 (ix2 e d))
          (fun e => b2 (ix2 0 e)) e := by
  unfold k0_pay18
  pointwise [k0_pay2]
  simp only [pay16_apply, pay14_apply, pay4_apply, pay17_apply, strike3, top4, first4, cmpi_word, select_mark]
  rfl

end Cert.Dge

end
-- ==== Proof.KernelArray.lean ====
/-
  What the result array holds after the kernel's run: at slab `b`, row `r`, column `e`, the output entry that the body computes
  from slab `b` of the input. The sixteen blocks the grid writes back are the sixteen slabs.
-/
module

public import proofs.«01_k».proof.Proof.KernelBlock
public import proofs.«01_k».proof.Proof.Gen.KernelIdeal.Value
public import Idealize.ShloMosaic.Lib.Pipeline.ValueKit

@[expose] public section

set_option maxRecDepth 16384

noncomputable section

namespace Cert.Dge

open Idealize.ShloMosaic Idealize.ShloMosaic.TcCoe Cert.KernelIdeal Cert.KernelIdeal.Gen

/-- The output entry as a function of the argument arrays. -/
def result (x : FVec Ideal S16x576x384 .f32) (w1 : FVec Ideal S384x384 .f32) (b1 : FVec Ideal S384 .f32)
    (w2 : FVec Ideal S384x384 .f32) (b2 : FVec Ideal S384 .f32) : FVec Ideal S16x576x384 .f32 := fun i =>
  dense (dense (mixed (fun n d => x (ix3 (i 0) n d)) (i 1)) (fun e d => w1 (ix2 e d)) (fun e => b1 (ix1 e)))
    (fun e d => w2 (ix2 e d)) (fun e => b2 (ix1 e)) (i 2)

/-- The block the body leaves, entry by entry. -/
theorem out_apply (x0 : Vec Ideal S1x576x384 .f32) (w1 w2 : Vec Ideal S384x384 .f32) (b1 b2 : Vec Ideal S1x384 .f32)
    (q : Fin 1) (r : Fin 576) (e : Fin 384) :
    out0_5 x0 w1 b1 w2 b2 (ix3 q r e)
      = dense (dense (mixed (rowsOf x0) r) (fun e d => w1 (ix2 e d)) (fun e => b1 (ix2 0 e))) (fun e d => w2 (ix2 e d))
          (fun e => b2 (ix2 0 e)) e := by
  unfold out0_5 k0_pay22 k0_pay21 k0_pay20 k0_pay19
  have hz3 : (![0, 0, 0] : Fin 3 → Nat) = fun _ => 0 := funext fun a => by fin_cases a <;> rfl
  have hz2 : (![0, 0] : Fin 2 → Nat) = fun _ => 0 := funext fun a => by fin_cases a <;> rfl
  rw [View.canon_unit_zero hz3, View.ld_unit_zero hz3, View.ld_unit_zero hz2, View.ld_unit_zero hz2, View.ld_unit_zero hz2,
    View.ld_unit_zero hz2]
  unfold k0_pay1
  pointwise
  exact pay18_apply x0 w1 w2 b1 b2 r e

variable (m : (ℓ : Loc nD τ sig) → Buf (Elt Ideal) ℓ) (c : Dev nD)

/-- The windows' block indices at every grid point. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] :=
  (by decide +kernel : ∀ t : Fin grid0.N, _)

/-- The input block at point `t` is slab `t` of the input. -/
theorem rows (t : Fin cfg0.N) (q : Fin 16) (hq : q.val = t.val) (n : Fin 576) (d : Fin 384) :
    rowsOf (iblk m c 0 t) n d = m ((c : Thread nD τ).loc main_arg0) (ix3 q n d) := by
  unfold rowsOf
  blk_ext [iblk, V, idx t]

/-- The first weights' block is the whole array. -/
theorem weights1 (t : Fin cfg0.N) : iblk m c 1 t = m ((c : Thread nD τ).loc main_arg1) := by
  blk_ext! [iblk, V, idx t]

/-- The second weights' block is the whole array. -/
theorem weights2 (t : Fin cfg0.N) : iblk m c 3 t = m ((c : Thread nD τ).loc main_arg3) := by
  blk_ext! [iblk, V, idx t]

/-- The first bias's block is the bias as one row. -/
theorem bias1 (t : Fin cfg0.N) (e : Fin 384) : iblk m c 2 t (ix2 0 e) = m ((c : Thread nD τ).loc main_arg2) (ix1 e) := by
  have hp : (win0_2.blk t).view.emb (ix2 0 e : S1x384.Idx) = (ix2 0 e : S1x384.Idx) := by blk_ext! [idx t]
  unfold iblk
  entry_read
  change shapeCast S1x384 (m ((c : Thread nD τ).loc main_arg2)) shapeCasts_S384_S1x384 ((win0_2.blk t).view.emb (ix2 0 e : S1x384.Idx)) = _
  rw [hp]
  pointwise

/-- The second bias's block is the bias as one row. -/
theorem bias2 (t : Fin cfg0.N) (e : Fin 384) : iblk m c 4 t (ix2 0 e) = m ((c : Thread nD τ).loc main_arg4) (ix1 e) := by
  have hp : (win0_4.blk t).view.emb (ix2 0 e : S1x384.Idx) = (ix2 0 e : S1x384.Idx) := by blk_ext! [idx t]
  unfold iblk
  entry_read
  change shapeCast S1x384 (m ((c : Thread nD τ).loc main_arg4)) shapeCasts_S384_S1x384 ((win0_4.blk t).view.emb (ix2 0 e : S1x384.Idx)) = _
  rw [hp]
  pointwise

/-- The place of a block entry in the array: block `t` is slab `t`. -/
theorem place (t : Fin cfg0.N) (q : Fin 1) (r : Fin 576) (e : Fin 384) :
    (win0_5.blk t).view.emb (ix3 q r e : S1x576x384.Idx) = (ix3 ⟨t.val, t.isLt⟩ r e : S16x576x384.Idx) := by
  blk_ext! [iblk, V, idx t]

/-- The result array after the run. -/
theorem final : (dats m 0 c).arrAt 5 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  have key : ∀ (q : Fin 1) (r : Fin 576) (e : Fin 384),
      out0_5 (iblk m c 0 t) (iblk m c 1 t) (iblk m c 2 t) (iblk m c 3 t) (iblk m c 4 t) (ix3 q r e)
        = result (m ((c : Thread nD τ).loc main_arg0)) (m ((c : Thread nD τ).loc main_arg1)) (m ((c : Thread nD τ).loc main_arg2))
            (m ((c : Thread nD τ).loc main_arg3)) (m ((c : Thread nD τ).loc main_arg4))
            ((win0_5.blk t).view.emb (ix3 q r e : S1x576x384.Idx)) := by
    intro q r e
    rw [out_apply, place]
    have hx : rowsOf (iblk m c 0 t) = fun n d => m ((c : Thread nD τ).loc main_arg0) (ix3 ⟨t.val, t.isLt⟩ n d) :=
      funext fun n => funext fun d => rows m c t _ rfl n d
    rw [hx, weights1, weights2]
    simp only [bias1, bias2]
    rfl
  have hy : (y : S1x576x384.Idx) = ix3 (y 0) (y 1) (y 2) := eq_ix3 _
  exact hy ▸ key (y 0) (y 1) (y 2)

end Cert.Dge

end
-- ==== Proof.RefTerms.lean ====
/-
  The reference's result, cut into the steps its program takes: the masked scores, the five greatest of each row with their
  positions, the weights, the gathered rows, and the two dense layers.
-/
module

public import proofs.«01_k».proof.Proof.Gen.ReferenceIdeal
public import proofs.«01_k».proof.Proof.Gen.ReferenceIdeal.Run
public import Idealize.ShloMosaic.PureOps.Ideal.Laws

@[expose] public section

set_option maxRecDepth 16384

noncomputable section

namespace Cert.Dge.Ref

open Idealize.ShloMosaic Cert.ReferenceIdeal Cert.ReferenceIdeal.Facts₀

variable (X : FVec Ideal S16x576x384 .f32)

/-- The rows divided by their norms plus the constant. -/
def units : FVec Ideal S16x576x384 .f32 :=
  Host.divf X (broadcastInDim S16x576x384 ![0, 1, 2] bcast_S16x576x1_S16x576x384_0_1_2 (addf (Host.sqrt (broadcastInDim S16x576x1 ![0, 1] bcast_S16x576_S16x576x1_0_1 (Host.reduceAdd (mulf X X) (constant S_ .f32 0x00000000#32) reducesTo_S16x576x384_S16x576_d2 h_S_))) (broadcastInDim S16x576x1 ![] bcast_S_S16x576x1 (constant S_ .f32 0x322BCC77#32))))

/-- The masked scores. -/
def scores : FVec Ideal S16x576x576 .f32 :=
  select (broadcastInDim S16x576x576 ![0, 1, 2] bcast_S1x576x576_S16x576x576_0_1_2 (broadcastInDim S1x576x576 ![1, 2] bcast_S576x576_S1x576x576_1_2 (cmpi .eq (addi (iotaInDim S576x576 32 0) (broadcastInDim S576x576 ![] bcast_S_S576x576 (constantI S_ 32 0#32))) (iotaInDim S576x576 32 1)))) (broadcastInDim S16x576x576 ![] bcast_S_S16x576x576 (id (constant S_ .f32 0xFF800000#32))) (Host.dotGeneral dot_S16x576x384_S16x576x384_S16x576x576_2_2_1_1_0_0 none (units X) (units X))

/-- The five greatest scores of each row, and their positions. -/
def best : FVec Ideal S16x576x5 .f32 × IVec S16x576x5 32 :=
  Host.topK S16x576x5 2 (FloatOps.cmpfTotal .gt) (scores X) sliceFits_S16x576x576_S16x576x5

/-- The exponentials of the five scores less the greatest of them. -/
def lifts (T : FVec Ideal S16x576x5 .f32) : FVec Ideal S16x576x5 .f32 :=
  Host.exp (subf T (broadcastInDim S16x576x5 ![0, 1, 2] bcast_S16x576x1_S16x576x5_0_1_2 (broadcastInDim S16x576x1 ![0, 1] bcast_S16x576_S16x576x1_0_1 (maximumf (broadcastInDim S16x576 ![] bcast_S_S16x576 (constant S_ .f32 0xFF800000#32)) (Host.reduce FloatOps.maximumf T (constant S_ .f32 0xFF800000#32) reducesTo_S16x576x5_S16x576_d2 h_S_)))))

/-- The exponentials divided by their sum. -/
def weights (E : FVec Ideal S16x576x5 .f32) : FVec Ideal S16x576x5 .f32 :=
  Host.divf E (broadcastInDim S16x576x5 ![0, 1, 2] bcast_S16x576x1_S16x576x5_0_1_2 (broadcastInDim S16x576x1 ![0, 1] bcast_S16x576_S16x576x1_0_1 (Host.reduceAdd E (constant S_ .f32 0x00000000#32) reducesTo_S16x576x5_S16x576_d2 h_S_)))

/-- The rows at the positions, a negative position counted from the end. -/
def taken (I : IVec S16x576x5 32) : FVec Ideal S16x576x5x384 .f32 :=
  Host.gather gather_S16x576x384_S16x576x5x1_S16x576x5x384_3_1_0_0_1_3_11384 X (broadcastInDim S16x576x5x1 ![0, 1, 2] bcast_S16x576x5_S16x576x5x1_0_1_2 (select (cmpi .slt I (broadcastInDim S16x576x5 ![] bcast_S_S16x576x5 (constantI S_ 32 0#32))) (addi I (broadcastInDim S16x576x5 ![] bcast_S_S16x576x5 (constantI S_ 32 576#32))) I))

/-- The rows plus the weighted sum of the rows taken. -/
def mix (W : FVec Ideal S16x576x5 .f32) (R : FVec Ideal S16x576x5x384 .f32) : FVec Ideal S16x576x384 .f32 :=
  addf X (Host.reduceAdd (mulf (broadcastInDim S16x576x5x384 ![0, 1, 2, 3] bcast_S16x576x5x1_S16x576x5x384_0_1_2_3 (broadcastInDim S16x576x5x1 ![0, 1, 2] bcast_S16x576x5_S16x576x5x1_0_1_2 W)) R) (constant S_ .f32 0x00000000#32) reducesTo_S16x576x5x384_S16x576x384_d2 h_S_)

/-- A dense layer over all rows, negative entries cut to zero. -/
def layer (H : FVec Ideal S9216x384 .f32) (w : FVec Ideal S384x384 .f32) (b : FVec Ideal S384 .f32) : FVec Ideal S9216x384 .f32 :=
  maximumf (addf (Host.dotGeneral dot_S9216x384_S384x384_S9216x384_1_0_0_1_n_n none H (transpose S384x384 [1, 0] w transposes_S384x384_S384x384_1_0)) (broadcastInDim S9216x384 ![0, 1] bcast_S1x384_S9216x384_0_1 (broadcastInDim S1x384 ![1] bcast_S384_S1x384_1 b))) (broadcastInDim S9216x384 ![] bcast_S_S9216x384 (constant S_ .f32 0x00000000#32))

/-- The result of the five arguments. -/
def out (w1 : FVec Ideal S384x384 .f32) (b1 : FVec Ideal S384 .f32) (w2 : FVec Ideal S384x384 .f32) (b2 : FVec Ideal S384 .f32) :
    FVec Ideal S16x576x384 .f32 :=
  shapeCast S16x576x384 (layer (layer (shapeCast S9216x384 (mix X (weights (lifts (best X).1)) (taken X (best X).2)) shapeCasts_S16x576x384_S9216x384) w1 b1) w2 b2) shapeCasts_S9216x384_S16x576x384

/-- The program's composed result is `out` of its arguments. -/
theorem res_eq (m : (ℓ : Loc nD τ sig) → Buf (Elt Ideal) ℓ) (c : Dev nD) :
    Cert.ReferenceIdeal.Value.res_main_v49 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_main_v49
  rfl

end Cert.Dge.Ref

end
-- ==== Proof.Mixed.lean ====
/-
  The one step of mathematics between the two programs: summing the rows over all 576 columns with the kernel's weights, which
  are zero off the five picked columns, is summing the five picked rows with the softmax of their scores.
-/
module

public import proofs.«01_k».proof.Proof.KernelBlock

@[expose] public section

noncomputable section

namespace Cert.Dge

open Idealize.ShloMosaic

/-- The `k`-th of the five ranks. -/
abbrev nth (k : Fin 5) : Fin 576 := ⟨k.val, by omega⟩

/-- A row plus the five picked rows, each weighted by its exponential over the sum of the five. -/
def picked (x : Fin 576 → Fin 384 → EReal) (r : Fin 576) (d : Fin 384) : EReal :=
  x r d + ∑ k : Fin 5, Ideal.div (lift (score x r) (nth k)) (∑ j : Fin 5, lift (score x r) (nth j)) * x (rank (score x r) (nth k)) d

/-- The five picked columns are different. -/
theorem pick_injective (s : Fin 576 → EReal) : Function.Injective fun k : Fin 5 => rank s (nth k) := by
  intro a b h
  have := rank_injective s h
  exact Fin.ext (by simpa using this)

/-- The weight of a column is the sum of the rounds' shares. -/
theorem weight_eq (s : Fin 576 → EReal) (c : Fin 576) : weight s c = ∑ k : Fin 5, share s (nth k) c := by
  rw [Fin.sum_univ_five]
  rfl

/-- The weight of the `k`-th picked column is its exponential. -/
theorem weight_pick (s : Fin 576 → EReal) (k : Fin 5) : weight s (rank s (nth k)) = lift s (nth k) := by
  rw [weight_eq, Finset.sum_eq_single k]
  · unfold share
    rw [if_pos rfl]
  · intro j _ hj
    unfold share
    rw [if_neg]
    exact fun e => hj (pick_injective s e).symm
  · intro h; exact absurd (Finset.mem_univ k) h

/-- A column that no round picked has weight zero. -/
theorem weight_other (s : Fin 576 → EReal) (c : Fin 576) (h : ∀ k : Fin 5, c ≠ rank s (nth k)) : weight s c = 0 := by
  rw [weight_eq]
  exact Finset.sum_eq_zero fun k _ => by unfold share; rw [if_neg (h k)]

/-- A sum over all columns of terms that vanish off the picked ones is the sum over the picks. -/
theorem sum_picks (s : Fin 576 → EReal) (f : Fin 576 → EReal) (h : ∀ c, (∀ k : Fin 5, c ≠ rank s (nth k)) → f c = 0) :
    ∑ c, f c = ∑ k : Fin 5, f (rank s (nth k)) := by
  rw [← Finset.sum_image (s := Finset.univ) (g := fun k : Fin 5 => rank s (nth k)) (f := f) ((pick_injective s).injOn)]
  refine (Finset.sum_subset (Finset.subset_univ _) fun c _ hc => h c fun k e => hc ?_).symm
  exact Finset.mem_image.mpr ⟨k, Finset.mem_univ _, e.symm⟩

/-- The weights add up to the sum of the five exponentials. -/
theorem sum_weight (s : Fin 576 → EReal) : ∑ c, weight s c = ∑ k : Fin 5, lift s (nth k) := by
  rw [sum_picks s _ fun c h => weight_other s c h]
  exact Finset.sum_congr rfl fun k _ => weight_pick s k

/-- An exponential is not negative. -/
theorem exp_nonneg (a : EReal) : 0 ≤ Ideal.exp a := by
  induction a with
  | bot => exact le_rfl
  | top => exact le_top
  | coe r =>
    rw [show Ideal.exp (r : EReal) = (Real.exp r : EReal) from rfl]
    exact_mod_cast (Real.exp_pos r).le

/-- The sum of the five exponentials is not zero: the first is 1. -/
theorem sum_lift_ne (x : Fin 576 → Fin 384 → EReal) (r : Fin 576) : (∑ k : Fin 5, lift (score x r) (nth k)) ≠ 0 := by
  have h1 : lift (score x r) (nth 0) = 1 := by
    obtain ⟨a, ha⟩ := score_rank_real x r 0 (by decide)
    unfold lift
    rw [show nth 0 = 0 from rfl, ha, ← EReal.coe_sub, sub_self, show Ideal.exp ((0 : ℝ) : EReal) = (Real.exp 0 : EReal) from rfl,
      Real.exp_zero]
    rfl
  have h2 := Finset.single_le_sum (f := fun k : Fin 5 => lift (score x r) (nth k)) (s := Finset.univ)
    (fun k _ => exp_nonneg _) (Finset.mem_univ 0)
  rw [h1] at h2
  exact (zero_lt_one.trans_le h2).ne'

/-- The kernel's mixed row is the five picked rows under the softmax. -/
theorem mixed_eq (x : Fin 576 → Fin 384 → EReal) (r : Fin 576) (d : Fin 384) : mixed x r d = picked x r d := by
  unfold mixed picked
  rw [sum_weight, sum_picks (score x r)]
  · simp only [weight_pick]
  · intro c h
    rw [weight_other _ c h]
    unfold Ideal.div
    rw [if_neg (sum_lift_ne x r), zero_mul, zero_mul]

end Cert.Dge

end
-- ==== Proof.RefReads.lean ====
/-
  The reference's result read entry by entry: its scores are those of Proof/Scores.lean, its five positions the ranks, and its
  result the two dense layers over the row plus the five picked rows under the softmax.
-/
module

public import proofs.«01_k».proof.Proof.RefTerms
public import proofs.«01_k».proof.Proof.Mixed

@[expose] public section

set_option maxRecDepth 16384

noncomputable section

namespace Cert.Dge.Ref

open Idealize.ShloMosaic Cert.ReferenceIdeal Cert.ReferenceIdeal.Gen Cert.ReferenceIdeal.Facts₀

variable (X : FVec Ideal S16x576x384 .f32) (b : Fin 16)

/-- Slab `b` of the input as a table of rows. -/
abbrev slab : Fin 576 → Fin 384 → EReal := fun n d => X (ix3 b n d)

/-- The masked scores. -/
theorem scores_apply (r c : Fin 576) : scores X (ix3 b r c) = score (slab X b) r c := by
  unfold scores
  pointwise [units]
  rw [show IntOp.addi (BitVec.ofNat 32 r.val) 0#32 = BitVec.ofNat 32 r.val from BitVec.add_zero _, cmpi_word, select_mark,
    show id (constant (F := Ideal) S_ FTy.f32 4286578688#32) ix0 = Ideal.ofBits .f32 4286578688#32 from rfl, negInf]
  rfl

/-- Moving along the last axis of a score table. -/
theorem along_ix3 (r c k : Fin 576) (h : 2 < S16x576x576.rank) :
    (ix3 b r c : S16x576x576.Idx).along ⟨2, h⟩ k = ix3 b r k := by
  funext a
  unfold Shape.Idx.along
  match a with
  | ⟨0, _⟩ => exact Function.update_of_ne (fun e => by have := congrArg Fin.val e; simp at this) _ _
  | ⟨1, _⟩ => exact Function.update_of_ne (fun e => by have := congrArg Fin.val e; simp at this) _ _
  | ⟨2, _⟩ => exact Function.update_self _ _ _

/-- The comparator the sort of row `r` runs on is "greater score". -/
theorem before_eq (idx : IVec S16x576x576 32) (r c : Fin 576) (h : 2 < S16x576x576.rank) :
    (fun k k' : Fin 576 => (fun l r : EReal × BitVec 32 => FloatOps.cmpfTotal (F := Ideal) (φ := .f32) .gt l.1 r.1)
        (scores X ((ix3 b r c : S16x576x576.Idx).along ⟨2, h⟩ k), idx ((ix3 b r c : S16x576x576.Idx).along ⟨2, h⟩ k))
        (scores X ((ix3 b r c : S16x576x576.Idx).along ⟨2, h⟩ k'), idx ((ix3 b r c : S16x576x576.Idx).along ⟨2, h⟩ k')) == 1#1)
      = fun k k' => decide (score (slab X b) r k' < score (slab X b) r k) := by
  funext k k'
  rw [along_ix3, along_ix3]
  dsimp only
  rw [scores_apply, scores_apply, Ideal.cmpfTotal_def]
  unfold Ideal.cmp
  by_cases h : score (slab X b) r k' < score (slab X b) r k <;> simp [CmpDirection.ordered, h]

/-- The `k`-th of a row's five greatest scores. -/
theorem best_fst (r : Fin 576) (k : Fin 5) :
    (best X).1 (ix3 b r k) = score (slab X b) r (rank (score (slab X b) r) (nth k)) := by
  have e : (best X).1 (ix3 b r k) = (Host.sort2 S16x576x576 2 (fun l r => FloatOps.cmpfTotal (F := Ideal) (φ := .f32) .gt l.1 r.1) (scores X)
      (fun i => if hd : 2 < S16x576x576.rank then iotaInDim S16x576x576 32 ⟨2, hd⟩ i else 0#32)).1 (ix3 b r (nth k)) := by
    unfold best Host.topK
    pointwise
  rw [e]
  unfold Host.sort2
  rw [dif_pos (by decide)]
  dsimp only
  erw [before_eq X b (fun _ => 0#32), along_ix3]
  exact scores_apply X b r _

/-- And its position word. -/
theorem best_snd (r : Fin 576) (k : Fin 5) :
    (best X).2 (ix3 b r k) = BitVec.ofNat 32 (rank (score (slab X b) r) (nth k)).val := by
  have e : (best X).2 (ix3 b r k) = (Host.sort2 S16x576x576 2 (fun l r => FloatOps.cmpfTotal (F := Ideal) (φ := .f32) .gt l.1 r.1) (scores X)
      (fun i => if hd : 2 < S16x576x576.rank then iotaInDim S16x576x576 32 ⟨2, hd⟩ i else 0#32)).2 (ix3 b r (nth k)) := by
    unfold best Host.topK
    pointwise
  rw [e]
  unfold Host.sort2
  rw [dif_pos (by decide)]
  dsimp only
  erw [before_eq X b (fun _ => 0#32), along_ix3]
  rfl

/-- The exponentials. -/
theorem lifts_apply (r : Fin 576) (k : Fin 5) : lifts (best X).1 (ix3 b r k) = lift (score (slab X b) r) (nth k) := by
  unfold lifts
  pointwise
  simp only [best_fst]
  have h : Finset.univ.fold max (Ideal.ofBits .f32 4286578688#32) (fun j : Fin 5 => score (slab X b) r (rank (score (slab X b) r) (nth j)))
      = score (slab X b) r (rank (score (slab X b) r) 0) :=
    topOf_eq (i := (0 : Fin 5)) fun j => by
      rcases Nat.eq_zero_or_pos j.val with h | h
      · rw [show j = 0 from Fin.ext h]
      · exact (rank_after (score (slab X b) r) (i := nth 0) (j := nth j) h).1
  rw [h, negInf, max_eq_right bot_le]
  rfl

/-- The softmax weights. -/
theorem weights_apply (r : Fin 576) (k : Fin 5) : weights (lifts (best X).1) (ix3 b r k)
    = Ideal.div (lift (score (slab X b) r) (nth k)) (∑ j : Fin 5, lift (score (slab X b) r) (nth j)) := by
  unfold weights
  pointwise
  simp only [lifts_apply]

/-- The dimension numbers of the reading of rows. -/
abbrev dims := gather_S16x576x384_S16x576x5x1_S16x576x5x384_3_1_0_0_1_3_11384

/-- Reading rows at position words: where the word is row `p`'s, the row read is row `p` of the same slab. -/
theorem gather_apply (idx : IVec S16x576x5x1 32) (r : Fin 576) (k : Fin 5) (d : Fin 384) (p : Fin 576)
    (h : idx (ix4 b r k 0) = BitVec.ofNat 32 p.val) :
    Host.gather dims X idx (ix4 b r k d) = X (ix3 b p d) := by
  unfold Host.gather
  refine congrArg X (funext fun a => Fin.ext ?_)
  unfold GatherDims.operandIdx
  dsimp only
  have m0 : (0 : Fin S16x576x384.rank) ∈ dims.operandBatchingDims := by decide
  have n1 : (1 : Fin S16x576x384.rank) ∉ dims.operandBatchingDims := by decide
  have n2 : (2 : Fin S16x576x384.rank) ∉ dims.operandBatchingDims := by decide
  have k0 : (0 : Fin S16x576x384.rank) ∉ dims.sKept := by decide
  have k1 : (1 : Fin S16x576x384.rank) ∉ dims.sKept := by decide
  match a with
  | ⟨0, _⟩ =>
    change dims.start (ix4 b r k d) idx 0 + dims.batchCoord (ix4 b r k d) 0 + dims.offCoord (ix4 b r k d) 0 = _
    rw [GatherDims.start_batching dims _ _ _ m0, GatherDims.offCoord_eq_zero dims _ _ k0]
    show 0 + b.val + 0 = b.val
    omega
  | ⟨1, _⟩ =>
    change dims.start (ix4 b r k d) idx 1 + dims.batchCoord (ix4 b r k d) 1 + dims.offCoord (ix4 b r k d) 1 = _
    rw [GatherDims.batchCoord_eq_zero dims _ _ n1, GatherDims.offCoord_eq_zero dims _ _ k1]
    have hp := p.isLt
    have hs : dims.siIdx (ix4 b r k d) ⟨0, by decide⟩ = ix4 b r k 0 := by
      funext e
      match e with
      | ⟨0, _⟩ => rfl
      | ⟨1, _⟩ => rfl
      | ⟨2, _⟩ => rfl
      | ⟨3, _⟩ => rfl
    show min (idx (dims.siIdx (ix4 b r k d) ⟨0, by decide⟩)).toInt.toNat (576 - 1) + 0 + 0 = p.val
    rw [hs, h, toInt_pos (by omega)]
    simp
    omega
  | ⟨2, _⟩ =>
    change dims.start (ix4 b r k d) idx 2 + dims.batchCoord (ix4 b r k d) 2 + dims.offCoord (ix4 b r k d) 2 = _
    rw [GatherDims.batchCoord_eq_zero dims _ _ n2]
    show 0 + 0 + d.val = d.val
    omega

/-- The rows taken are the picked rows. -/
theorem taken_apply (r : Fin 576) (k : Fin 5) (d : Fin 384) :
    taken X (best X).2 (ix4 b r k d) = slab X b (rank (score (slab X b) r) (nth k)) d := by
  unfold taken
  refine gather_apply X b _ r k d _ ?_
  pointwise
  rw [best_snd]
  generalize rank (score (slab X b) r) (nth k) = p
  have hp := p.isLt
  have : IntOp.cmpi .slt (BitVec.ofNat 32 p.val) 0#32 = 0#1 := by
    unfold IntOp.cmpi
    have h : ¬ (BitVec.ofNat 32 p.val).slt 0#32 = true := by
      rw [BitVec.slt_iff_toInt_lt, toInt_pos (by omega)]
      simp
    simp [h]
  rw [this]
  rfl

/-- The reference's result at an entry. -/
theorem out_apply (w1 : FVec Ideal S384x384 .f32) (b1 : FVec Ideal S384 .f32) (w2 : FVec Ideal S384x384 .f32) (b2 : FVec Ideal S384 .f32)
    (r : Fin 576) (e : Fin 384) :
    out X w1 b1 w2 b2 (ix3 b r e)
      = dense (dense (picked (slab X b) r) (fun e d => w1 (ix2 e d)) (fun e => b1 (ix1 e))) (fun e d => w2 (ix2 e d))
          (fun e => b2 (ix1 e)) e := by
  unfold out
  pointwise [layer, mix]
  simp only [weights_apply, taken_apply]
  rfl

end Cert.Dge.Ref

end
-- ==== Proof.lean ====
/-
  The certificate: each of the three programs runs to a quiet end with its arguments unchanged, the kernel read over the
  extended reals is its own text, and its result array equals the reference's at every entry.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelArray
public import proofs.«01_k».proof.Proof.RefReads
public import Idealize.ShloMosaic.Lib.Quiescent
public import Idealize.ShloMosaic.Adequacy
public import Idealize.ShloMosaic.Init

@[expose] public section

noncomputable section

namespace Cert.Proof

open Idealize.ShloMosaic Idealize.SL.Sem Cert.Dge

/-- The array the kernel leaves is the reference's result of the same arguments. -/
theorem result_eq (x : FVec Ideal Cert.KernelIdeal.S16x576x384 .f32) (w1 : FVec Ideal Cert.KernelIdeal.S384x384 .f32)
    (b1 : FVec Ideal Cert.KernelIdeal.S384 .f32) (w2 : FVec Ideal Cert.KernelIdeal.S384x384 .f32)
    (b2 : FVec Ideal Cert.KernelIdeal.S384 .f32) : Ref.out x w1 b1 w2 b2 = result x w1 b1 w2 b2 := by
  funext i
  have h : ∀ (b : Fin 16) (r : Fin 576) (e : Fin 384), Ref.out x w1 b1 w2 b2 (ix3 b r e) = result x w1 b1 w2 b2 (ix3 b r e) := by
    intro b r e
    rw [Ref.out_apply]
    have hm : picked (Ref.slab x b) r = mixed (fun n d => x (ix3 b n d)) r := funext fun d => (mixed_eq _ r d).symm
    rw [hm]
    rfl
  have hi : i = ix3 (i 0) (i 1) (i 2) := eq_ix3 _
  rw [hi]
  exact h _ _ _

/-- The reference ends quiet with its arguments unchanged. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- From the same arguments the kernel and the reference end with the same result. -/
theorem same_result : Cert.algebraic_KernelIdeal_ReferenceIdeal (hKernelIdeal := Cert.KernelIdeal.Gen.facts)
    (hReferenceIdeal := Cert.ReferenceIdeal.Gen.facts) := by
  intro m ρ m' ρ' _ hag
  refine ⟨fun c => (Cert.KernelIdeal.Gen.dats m 0 c).arrAt 5 Cert.KernelIdeal.cfg0.N,
    Cert.KernelIdeal.Value.run_blocks m ρ,
    (θ_run Cert.ReferenceIdeal.defs _ _).mono (fun r h c => ⟨?_, (h c).2⟩) (Cert.ReferenceIdeal.Value.run (F := Ideal) m' ρ')⟩
  obtain ⟨h0, h1, h2, h3, h4⟩ := hag c
  refine (h c).1.trans ((Ref.res_eq m' c).trans ?_)
  rw [h0, h1, h2, h3, h4]
  exact (result_eq _ _ _ _ _).trans (final m c).symm

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_result⟩

end Cert.Proof

end
